-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x4096 : Shape := ⟨2, ![4096, 4096]⟩
abbrev S8x4096x64 : Shape := ⟨3, ![8, 4096, 64]⟩
abbrev S8x64x4096 : Shape := ⟨3, ![8, 64, 4096]⟩
abbrev S512x4096 : Shape := ⟨2, ![512, 4096]⟩
abbrev S1024x4096 : Shape := ⟨2, ![1024, 4096]⟩
abbrev S8x64x1024 : Shape := ⟨3, ![8, 64, 1024]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S8x4096x64, .f32⟩
  | .hbm, ⟨2, _⟩ => ⟨S8x64x4096, .f32⟩
  | .hbm, ⟨3, _⟩ => ⟨S512x4096, .f32⟩
  | .hbm, ⟨4, _⟩ => ⟨S8x64x4096, .f32⟩
  | .hbm, ⟨5, _⟩ => ⟨S8x4096x64, .f32⟩
  | .local _ .vmem, ⟨0, _⟩ => ⟨S1024x4096, .f32⟩
  | .local _ .vmem, ⟨1, _⟩ => ⟨S1024x4096, .f32⟩
  | .local _ .vmem, ⟨2, _⟩ => ⟨S512x4096, .f32⟩
  | .local _ .vmem, ⟨3, _⟩ => ⟨S8x64x1024, .f32⟩
  | .local _ .vmem, ⟨4, _⟩ => ⟨S8x64x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4096x4096 : Shape := ⟨2, ![4096, 4096]⟩
abbrev S8x4096x64 : Shape := ⟨3, ![8, 4096, 64]⟩
abbrev S4096x8x64 : Shape := ⟨3, ![4096, 8, 64]⟩

abbrev nBuf : Space → Nat
  | .hbm => 4
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S8x4096x64, .f32⟩
  | .hbm, ⟨2, _⟩ => ⟨S4096x8x64, .f32⟩
  | .hbm, ⟨3, _⟩ => ⟨S8x4096x64, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Value.Product.lean ====
/-
  Hand-written, untrusted. What ONE grid point computes, at the ideal instance: the product of the transposed right-hand sides
  with a panel of 1024 rows of the matrix, read off the argument arrays.
-/
module

public import proofs.«01_k».proof.Defs
public import proofs.«01_k».proof.Proof.Gen.KernelIdeal.Frame
public import Idealize.ShloMosaic.Lib.Pipeline.ValueKit

@[expose] public section

set_option maxRecDepth 16384

noncomputable section

namespace Cert.KernelIdeal.Product

open Idealize.ShloMosaic Idealize.ShloMosaic.TcCoe Idealize.SL.Sem
open Cert.KernelIdeal Cert.KernelIdeal.Gen

variable (m : (ℓ : Loc nD τ sig) → Buf (Elt Ideal) ℓ)

/-- The batched product, channel axis before vertex axis: at batch entry `b`, channel `c` and output vertex `n` it is
    `∑ k, x[b, k, c] * M[n, k]`. -/
def channelMajor (M : FVec Ideal S4096x4096 .f32) (x : FVec Ideal S8x4096x64 .f32) : FVec Ideal S8x64x4096 .f32 :=
  fun j => ∑ k : Fin 4096, x (ix3 (j 0) k (j 1)) * M (ix2 (j 2) k)

/-- Where each window's block lies, by grid point: the matrix moves down one panel of rows a point, the right-hand sides
    stay, and the result moves along its last axis. -/
theorem blockIndex : ∀ t : Fin cfg0.N,
    win0_0.index t = ![t.val, 0] ∧ win0_1.index t = ![0, 0] ∧ win0_2.index t = ![0, 0, t.val] :=
  (by decide +kernel : ∀ t : Fin grid0.N, _)

/-- The flattened right-hand sides as the region finds them: the host's transpose and reshape of the argument. -/
theorem flattened (c : Dev nD) : V m c main_v1
    = shapeCast S512x4096 (transpose S8x64x4096 [0, 2, 1] (m ((c : Thread nD τ).loc main_arg1))
        transposes_S8x4096x64_S8x64x4096_0_2_1) shapeCasts_S8x64x4096_S512x4096 := by
  unfold V V0
  simp only [List.flatten_cons, List.flatten_nil, List.append_nil, hostOps0]
  after_results
  rfl

/-- Row `64 * b + c` of the flattened right-hand sides is channel `c` of batch entry `b`. -/
theorem flattened_row (c : Dev nD) (i : S512x4096.Idx) (b : Fin 8) (ch : Fin 64) (k : Fin 4096)
    (hrow : (i 0).val = 64 * b.val + ch.val) (hk : (i 1).val = k.val) :
    V m c main_v1 i = m ((c : Thread nD τ).loc main_arg1) (ix3 b k ch) := by
  rw [flattened]
  pointwise
  blk_ext

/-- ONE GRID POINT: the payload stored at point `t`, at index `y` of the block, is the batched product at the array index
    where `y` lies. -/
theorem payload_eq (c : Dev nD) (t : Fin cfg0.N) (y : S8x64x1024.Idx) :
    k0_pay1 (iblk m c 1 t) (iblk m c 0 t) y
      = channelMajor (m ((c : Thread nD τ).loc main_arg0)) (m ((c : Thread nD τ).loc main_arg1))
          (((cfg0.win 2).blk t).view.emb y) := by
  pointwise [k0_pay1, channelMajor]
  refine Finset.sum_congr rfl fun k _ => ?_
  congr 1
  · unfold iblk
    refine flattened_row m c _ _ _ _ ?_ ?_
    · blk_simp [blockIndex t]
      exact congrArg (· + _) (Nat.mul_comm _ _)
    · blk_simp [blockIndex t]
  · blk_ext [iblk, V_main_arg0 m c, blockIndex t]

end Cert.KernelIdeal.Product

end
-- ==== Proof.Value.Result.lean ====
/-
  Hand-written, untrusted. The whole kernel's result, at the ideal instance: the array after the last grid point, the host's
  transpose of it, and the reference's composed term, each the batched product.
-/
module

public import proofs.«01_k».proof.Proof.Value.Product
public import proofs.«01_k».proof.Proof.Gen.ReferenceIdeal.Run

@[expose] public section

set_option maxRecDepth 16384

noncomputable section

namespace Cert.KernelIdeal.Product

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- THE ARRAY after the run: the four blocks tile it, so it is the batched product, channel axis first. -/
theorem array_eq (c : Dev nD) : (dats m 0 c).arrAt 2 (cfgs 0).N
    = channelMajor (m ((c : Thread nD τ).loc main_arg0)) (m ((c : Thread nD τ).loc main_arg1)) := by
  refine (dats m 0 c).arrAt_eq_of_covers 2 _ (by decide +kernel) fun t _ y => ?_
  blk_simp
  rw [after0_2]
  frame_out
  exact payload_eq m c t y

/-- THE HOST'S LAST LINE: the program's result is that array with its last two axes exchanged. -/
theorem tail_eq (c : Dev nD) : Pipeline.afterTail₀ cfgs (dats m) 0 (V0 m) [hostOps1] c main_v3
    = transpose S8x4096x64 [0, 2, 1]
        (channelMajor (m ((c : Thread nD τ).loc main_arg0)) (m ((c : Thread nD τ).loc main_arg1)))
        transposes_S8x64x4096_S8x4096x64_0_2_1 := by
  unfold Pipeline.afterTail₀
  simp only [List.flatten_cons, List.flatten_nil, List.append_nil, hostOps1]
  after_results
  rw [← array_eq m c]
  exact congrArg (transpose S8x4096x64 [0, 2, 1] · transposes_S8x64x4096_S8x4096x64_0_2_1)
    (Pipeline.withArrays_arr spec0 launch0.win.arr_inj c (V0 m c) _ 2)

/-- THE RUN: the kernel terminates with its result at the batched product, vertex axis before channel axis, and its
    arguments unchanged. -/
theorem run : θ_run defs (onTc (τ := τ) (main (F := Ideal))) ⟨m, fun _ => 0, ρ⟩ fun r => ∀ c : Dev nD,
    r.2.mem ((c.tc : Thread nD τ).loc main_v3)
        = transpose S8x4096x64 [0, 2, 1]
            (channelMajor (m ((c : Thread nD τ).loc main_arg0)) (m ((c : Thread nD τ).loc main_arg1)))
            transposes_S8x64x4096_S8x4096x64_0_2_1
      ∧ r.2.mem ((c.tc : Thread nD τ).loc main_arg0) = m ((c.tc : Thread nD τ).loc main_arg0)
      ∧ r.2.mem ((c.tc : Thread nD τ).loc main_arg1) = m ((c.tc : Thread nD τ).loc main_arg1) :=
  θ_run_mono (θ_run_and (run_main m ρ) (unchanged m ρ)) fun _ h c =>
    ⟨((h.1 c).2 main_v3 (Pipeline.mem_restRefs_of main_v3 (by decide) (by decide))).trans (tail_eq m c), h.2 c⟩

/-- THE EQUATION: the reference's product, batch axis moved to the front, is the kernel's result. Both read
    `∑ k, M[n, k] * x[b, k, c]` at `(b, n, c)`, with the factors in the other order. -/
theorem reference_eq (M : FVec Ideal S4096x4096 .f32) (x : FVec Ideal S8x4096x64 .f32) :
    transpose Cert.ReferenceIdeal.S8x4096x64 [1, 0, 2]
        (Host.dotGeneral Cert.ReferenceIdeal.dot_S4096x4096_S8x4096x64_S4096x8x64_1_1_0_02_n_n none M x :
          FVec Ideal Cert.ReferenceIdeal.S4096x8x64 .f32)
        Cert.ReferenceIdeal.Gen.transposes_S4096x8x64_S8x4096x64_1_0_2
      = transpose S8x4096x64 [0, 2, 1] (channelMajor M x) transposes_S8x64x4096_S8x4096x64_0_2_1 := by
  funext j
  pointwise [channelMajor]
  exact Finset.sum_congr rfl fun k _ => mul_comm _ _

end Cert.KernelIdeal.Product

end
-- ==== Proof.lean ====
/-
  Hand-written, untrusted. The certificate of the batched product `M @ x[b]`: the generated frames of the kernel, at words and
  at extended reals, the reference's frame off its run, and the value claim by Proof/Value/Product.lean (one grid point) and
  Proof/Value/Result.lean (the array, the host's last transpose, and the equation with the reference).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value.Result
public import Idealize.ShloMosaic.Adequacy
public import Idealize.ShloMosaic.Init

@[expose] public section

noncomputable section

namespace Cert.Proof

open Idealize.ShloMosaic Idealize.SL.Sem Cert.Kernel

/-- Kernel and reference compute the same array over the extended reals: both runs end at the batched product. -/
theorem algebraic : Cert.algebraic_KernelIdeal_ReferenceIdeal (hKernelIdeal := Cert.KernelIdeal.Gen.facts)
    (hReferenceIdeal := Cert.ReferenceIdeal.Gen.facts) := by
  pair_intro
  · run_from Cert.KernelIdeal.Product.run m g
  · run_from Cert.ReferenceIdeal.Value.run m' g'
    exact Cert.KernelIdeal.Product.reference_eq _ _

/-- The certificate: the three frames, the idealization (which rewrites nothing) and the value claim. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => θ_run_mono (Cert.ReferenceIdeal.Value.run m ρ) fun r h =>
      ⟨fun c => (h c).2, sem_eq_zero_of_no_sems (by decide) r.2⟩,
    trivial, algebraic⟩

end Cert.Proof

end
